-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S50000x256 : Shape := ⟨2, ![50000, 256]⟩
abbrev S10000x16 : Shape := ⟨2, ![10000, 16]⟩
abbrev S1x256 : Shape := ⟨2, ![1, 256]⟩
abbrev S1 : Shape := ⟨1, ![1]⟩
abbrev S_ : Shape := ⟨0, ![]⟩
abbrev S10000x16x1 : Shape := ⟨3, ![10000, 16, 1]⟩
abbrev S1x1x1 : Shape := ⟨3, ![1, 1, 1]⟩
abbrev S10000x16x256 : Shape := ⟨3, ![10000, 16, 256]⟩
abbrev S10000x256 : Shape := ⟨2, ![10000, 256]⟩
abbrev S256x1 : Shape := ⟨2, ![256, 1]⟩
abbrev S10000x1 : Shape := ⟨2, ![10000, 1]⟩
abbrev S1x1 : Shape := ⟨2, ![1, 1]⟩
abbrev S10000 : Shape := ⟨1, ![10000]⟩
abbrev S5000 : Shape := ⟨1, ![5000]⟩
abbrev S10000x1x16 : Shape := ⟨3, ![10000, 1, 16]⟩
abbrev S10000x1x256 : Shape := ⟨3, ![10000, 1, 256]⟩
abbrev S5000x1x16 : Shape := ⟨3, ![5000, 1, 16]⟩
abbrev S5000x1x256 : Shape := ⟨3, ![5000, 1, 256]⟩
abbrev S1x1x16 : Shape := ⟨3, ![1, 1, 16]⟩
abbrev S1x1x256 : Shape := ⟨3, ![1, 1, 256]⟩
abbrev S5000x16 : Shape := ⟨2, ![5000, 16]⟩
abbrev S5000x256 : Shape := ⟨2, ![5000, 256]⟩

abbrev nBuf : Space → Nat
  | .hbm => 50
  | .vmem => 8
  | .smem => 1
  | _ => 0

abbrev bufTy : (tb : Table) → Fin (tcTables nBuf tb) → BufTy
  | .hbm, ⟨0, _⟩ => ⟨S50000x256, .f32⟩
  | .hbm, ⟨1, _⟩ => ⟨S10000x16, .i32⟩
  | .hbm, ⟨2, _⟩ => ⟨S1x256, .f32⟩
  | .hbm, ⟨3, _⟩ => ⟨S1, .f32⟩
  | .hbm, ⟨4, _⟩ => ⟨S_, .i32⟩
  | .hbm, ⟨5, _⟩ => ⟨S10000x16, .i32⟩
  | .hbm, ⟨6, _⟩ => ⟨S10000x16, .i1⟩
  | .hbm, ⟨7, _⟩ => ⟨S_, .i32⟩
  | .hbm, ⟨8, _⟩ => ⟨S10000x16, .i32⟩
  | .hbm, ⟨9, _⟩ => ⟨S10000x16, .i32⟩
  | .hbm, ⟨10, _⟩ => ⟨S10000x16, .i32⟩
  | .hbm, ⟨11, _⟩ => ⟨S10000x16x1, .i32⟩
  | .hbm, ⟨12, _⟩ => ⟨S1, .i32⟩
  | .hbm, ⟨13, _⟩ => ⟨S_, .i32⟩
  | .hbm, ⟨14, _⟩ => ⟨S10000x16x1, .i32⟩
  | .hbm, ⟨15, _⟩ => ⟨S10000x16x1, .i1⟩
  | .hbm, ⟨16, _⟩ => ⟨S1x1x1, .i32⟩
  | .hbm, ⟨17, _⟩ => ⟨S10000x16x1, .i32⟩
  | .hbm, ⟨18, _⟩ => ⟨S10000x16x1, .i1⟩
  | .hbm, ⟨19, _⟩ => ⟨S10000x16x1, .i1⟩
  | .hbm, ⟨20, _⟩ => ⟨S_, .i1⟩
  | .hbm, ⟨21, _⟩ => ⟨S10000x16, .i1⟩
  | .hbm, ⟨22, _⟩ => ⟨S10000x16x256, .f32⟩
  | .hbm, ⟨23, _⟩ => ⟨S10000x16x256, .i1⟩
  | .hbm, ⟨24, _⟩ => ⟨S_, .f32⟩
  | .hbm, ⟨25, _⟩ => ⟨S10000x16x256, .f32⟩
  | .hbm, ⟨26, _⟩ => ⟨S10000x16x256, .f32⟩
  | .hbm, ⟨27, _⟩ => ⟨S_, .f32⟩
  | .hbm, ⟨28, _⟩ => ⟨S10000x256, .f32⟩
  | .hbm, ⟨29, _⟩ => ⟨S256x1, .f32⟩
  | .hbm, ⟨30, _⟩ => ⟨S10000x1, .f32⟩
  | .hbm, ⟨31, _⟩ => ⟨S1x1, .f32⟩
  | .hbm, ⟨32, _⟩ => ⟨S10000x1, .f32⟩
  | .hbm, ⟨33, _⟩ => ⟨S10000x1, .f32⟩
  | .hbm, ⟨34, _⟩ => ⟨S10000, .f32⟩
  | .hbm, ⟨35, _⟩ => ⟨S10000, .f32⟩
  | .hbm, ⟨36, _⟩ => ⟨S10000, .f32⟩
  | .hbm, ⟨37, _⟩ => ⟨S_, .f32⟩
  | .hbm, ⟨38, _⟩ => ⟨S10000, .f32⟩
  | .hbm, ⟨39, _⟩ => ⟨S10000, .f32⟩
  | .hbm, ⟨40, _⟩ => ⟨S_, .f32⟩
  | .hbm, ⟨41, _⟩ => ⟨S10000, .f32⟩
  | .hbm, ⟨42, _⟩ => ⟨S10000, .f32⟩
  | .hbm, ⟨43, _⟩ => ⟨S5000, .f32⟩
  | .hbm, ⟨44, _⟩ => ⟨S10000x1x16, .i32⟩
  | .hbm, ⟨45, _⟩ => ⟨S10000x1x256, .f32⟩
  | .hbm, ⟨46, _⟩ => ⟨S5000x1x16, .i32⟩
  | .hbm, ⟨47, _⟩ => ⟨S5000x1x256, .f32⟩
  | .hbm, ⟨48, _⟩ => ⟨S5000x16, .i32⟩
  | .hbm, ⟨49, _⟩ => ⟨S5000x256, .f32⟩
  | .local _ .vmem, ⟨0, _⟩ => ⟨S1x1x16, .i32⟩
  | .local _ .vmem, ⟨1, _⟩ => ⟨S1x1x16, .i32⟩
  | .local _ .vmem, ⟨2, _⟩ => ⟨S1x1x256, .f32⟩
  | .local _ .vmem, ⟨3, _⟩ => ⟨S1x1x256, .f32⟩
  | .local _ .vmem, ⟨4, _⟩ => ⟨S1x1x16, .i32⟩
  | .local _ .vmem, ⟨5, _⟩ => ⟨S1x1x16, .i32⟩
  | .local _ .vmem, ⟨6, _⟩ => ⟨S1x1x256, .f32⟩
  | .local _ .vmem, ⟨7, _⟩ => ⟨S1x1x256, .f32⟩
  | .local _ .smem, ⟨0, _⟩ => ⟨S5000, .i32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_0 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_values : Ref sig .tc := ⟨.hbm, 43, rfl⟩
abbrev main_v14 : Ref sig .tc := ⟨.hbm, 44, rfl⟩
abbrev main_v15 : Ref sig .tc := ⟨.hbm, 45, rfl⟩
abbrev main_v16_0 : Ref sig .tc := ⟨.hbm, 46, rfl⟩
abbrev main_v16_1 : Ref sig .tc := ⟨.hbm, 47, rfl⟩
abbrev main_v17 : Ref sig .tc := ⟨.hbm, 48, rfl⟩
abbrev main_v18 : Ref sig .tc := ⟨.hbm, 49, rfl⟩
abbrev main_indices : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![5000], ![false]⟩

abbrev pre0 : Pipeline.Prefetch sig := ⟨1, ![main_indices.idx], fun | 0 => main_indices.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S5000.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S5000) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S5000.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S5000) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S50000x256 : Shape := ⟨2, ![50000, 256]⟩
abbrev S10000x16 : Shape := ⟨2, ![10000, 16]⟩
abbrev S1x256 : Shape := ⟨2, ![1, 256]⟩
abbrev S1 : Shape := ⟨1, ![1]⟩
abbrev S_ : Shape := ⟨0, ![]⟩
abbrev S10000x16x1 : Shape := ⟨3, ![10000, 16, 1]⟩
abbrev S1x1x1 : Shape := ⟨3, ![1, 1, 1]⟩
abbrev S10000x16x256 : Shape := ⟨3, ![10000, 16, 256]⟩
abbrev S10000x256 : Shape := ⟨2, ![10000, 256]⟩
abbrev S256x1 : Shape := ⟨2, ![256, 1]⟩
abbrev S10000x1 : Shape := ⟨2, ![10000, 1]⟩
abbrev S1x1 : Shape := ⟨2, ![1, 1]⟩
abbrev S10000 : Shape := ⟨1, ![10000]⟩
abbrev S5000 : Shape := ⟨1, ![5000]⟩
abbrev S5000x1 : Shape := ⟨2, ![5000, 1]⟩
abbrev S5000x16 : Shape := ⟨2, ![5000, 16]⟩
abbrev S5000x256 : Shape := ⟨2, ![5000, 256]⟩

abbrev nBuf : Space → Nat
  | .hbm => 91
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S10000x16, .i32⟩
  | .hbm, ⟨2, _⟩ => ⟨S1x256, .f32⟩
  | .hbm, ⟨3, _⟩ => ⟨S1, .f32⟩
  | .hbm, ⟨4, _⟩ => ⟨S_, .i32⟩
  | .hbm, ⟨5, _⟩ => ⟨S10000x16, .i32⟩
  | .hbm, ⟨6, _⟩ => ⟨S10000x16, .i1⟩
  | .hbm, ⟨7, _⟩ => ⟨S_, .i32⟩
  | .hbm, ⟨8, _⟩ => ⟨S10000x16, .i32⟩
  | .hbm, ⟨9, _⟩ => ⟨S10000x16, .i32⟩
  | .hbm, ⟨10, _⟩ => ⟨S10000x16, .i32⟩
  | .hbm, ⟨11, _⟩ => ⟨S10000x16x1, .i32⟩
  | .hbm, ⟨12, _⟩ => ⟨S1, .i32⟩
  | .hbm, ⟨13, _⟩ => ⟨S_, .i32⟩
  | .hbm, ⟨14, _⟩ => ⟨S10000x16x1, .i32⟩
  | .hbm, ⟨15, _⟩ => ⟨S10000x16x1, .i1⟩
  | .hbm, ⟨16, _⟩ => ⟨S1x1x1, .i32⟩
  | .hbm, ⟨17, _⟩ => ⟨S10000x16x1, .i32⟩
  | .hbm, ⟨18, _⟩ => ⟨S10000x16x1, .i1⟩
  | .hbm, ⟨19, _⟩ => ⟨S10000x16x1, .i1⟩
  | .hbm, ⟨20, _⟩ => ⟨S_, .i1⟩
  | .hbm, ⟨21, _⟩ => ⟨S10000x16, .i1⟩
  | .hbm, ⟨22, _⟩ => ⟨S10000x16x256, .f32⟩
  | .hbm, ⟨23, _⟩ => ⟨S10000x16x256, .i1⟩
  | .hbm, ⟨24, _⟩ => ⟨S_, .f32⟩
  | .hbm, ⟨25, _⟩ => ⟨S10000x16x256, .f32⟩
  | .hbm, ⟨26, _⟩ => ⟨S10000x16x256, .f32⟩
  | .hbm, ⟨27, _⟩ => ⟨S_, .f32⟩
  | .hbm, ⟨28, _⟩ => ⟨S10000x256, .f32⟩
  | .hbm, ⟨29, _⟩ => ⟨S256x1, .f32⟩
  | .hbm, ⟨30, _⟩ => ⟨S10000x1, .f32⟩
  | .hbm, ⟨31, _⟩ => ⟨S1x1, .f32⟩
  | .hbm, ⟨32, _⟩ => ⟨S10000x1, .f32⟩
  | .hbm, ⟨33, _⟩ => ⟨S10000x1, .f32⟩
  | .hbm, ⟨34, _⟩ => ⟨S10000, .f32⟩
  | .hbm, ⟨35, _⟩ => ⟨S10000, .f32⟩
  | .hbm, ⟨36, _⟩ => ⟨S10000, .f32⟩
  | .hbm, ⟨37, _⟩ => ⟨S_, .f32⟩
  | .hbm, ⟨38, _⟩ => ⟨S10000, .f32⟩
  | .hbm, ⟨39, _⟩ => ⟨S10000, .f32⟩
  | .hbm, ⟨40, _⟩ => ⟨S_, .f32⟩
  | .hbm, ⟨41, _⟩ => ⟨S10000, .f32⟩
  | .hbm, ⟨42, _⟩ => ⟨S10000, .f32⟩
  | .hbm, ⟨43, _⟩ => ⟨S5000, .f32⟩
  | .hbm, ⟨44, _⟩ => ⟨S5000, .i32⟩
  | .hbm, ⟨45, _⟩ => ⟨S_, .i32⟩
  | .hbm, ⟨46, _⟩ => ⟨S5000, .i32⟩
  | .hbm, ⟨47, _⟩ => ⟨S5000, .i1⟩
  | .hbm, ⟨48, _⟩ => ⟨S_, .i32⟩
  | .hbm, ⟨49, _⟩ => ⟨S5000, .i32⟩
  | .hbm, ⟨50, _⟩ => ⟨S5000, .i32⟩
  | .hbm, ⟨51, _⟩ => ⟨S5000, .i32⟩
  | .hbm, ⟨52, _⟩ => ⟨S5000x1, .i32⟩
  | .hbm, ⟨53, _⟩ => ⟨S1, .i32⟩
  | .hbm, ⟨54, _⟩ => ⟨S_, .i32⟩
  | .hbm, ⟨55, _⟩ => ⟨S5000x1, .i32⟩
  | .hbm, ⟨56, _⟩ => ⟨S5000x1, .i1⟩
  | .hbm, ⟨57, _⟩ => ⟨S1x1, .i32⟩
  | .hbm, ⟨58, _⟩ => ⟨S5000x1, .i32⟩
  | .hbm, ⟨59, _⟩ => ⟨S5000x1, .i1⟩
  | .hbm, ⟨60, _⟩ => ⟨S5000x1, .i1⟩
  | .hbm, ⟨61, _⟩ => ⟨S_, .i1⟩
  | .hbm, ⟨62, _⟩ => ⟨S5000, .i1⟩
  | .hbm, ⟨63, _⟩ => ⟨S5000x16, .i32⟩
  | .hbm, ⟨64, _⟩ => ⟨S5000x16, .i1⟩
  | .hbm, ⟨65, _⟩ => ⟨S_, .i32⟩
  | .hbm, ⟨66, _⟩ => ⟨S5000x16, .i32⟩
  | .hbm, ⟨67, _⟩ => ⟨S5000x16, .i32⟩
  | .hbm, ⟨68, _⟩ => ⟨S_, .i32⟩
  | .hbm, ⟨69, _⟩ => ⟨S5000, .i32⟩
  | .hbm, ⟨70, _⟩ => ⟨S5000, .i1⟩
  | .hbm, ⟨71, _⟩ => ⟨S_, .i32⟩
  | .hbm, ⟨72, _⟩ => ⟨S5000, .i32⟩
  | .hbm, ⟨73, _⟩ => ⟨S5000, .i32⟩
  | .hbm, ⟨74, _⟩ => ⟨S5000, .i32⟩
  | .hbm, ⟨75, _⟩ => ⟨S5000x1, .i32⟩
  | .hbm, ⟨76, _⟩ => ⟨S1, .i32⟩
  | .hbm, ⟨77, _⟩ => ⟨S_, .i32⟩
  | .hbm, ⟨78, _⟩ => ⟨S5000x1, .i32⟩
  | .hbm, ⟨79, _⟩ => ⟨S5000x1, .i1⟩
  | .hbm, ⟨80, _⟩ => ⟨S1x1, .i32⟩
  | .hbm, ⟨81, _⟩ => ⟨S5000x1, .i32⟩
  | .hbm, ⟨82, _⟩ => ⟨S5000x1, .i1⟩
  | .hbm, ⟨83, _⟩ => ⟨S5000x1, .i1⟩
  | .hbm, ⟨84, _⟩ => ⟨S_, .i1⟩
  | .hbm, ⟨85, _⟩ => ⟨S5000, .i1⟩
  | .hbm, ⟨86, _⟩ => ⟨S5000x256, .f32⟩
  | .hbm, ⟨87, _⟩ => ⟨S5000x256, .i1⟩
  | .hbm, ⟨88, _⟩ => ⟨S_, .f32⟩
  | .hbm, ⟨89, _⟩ => ⟨S5000x256, .f32⟩
  | .hbm, ⟨90, _⟩ => ⟨S5000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_0 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_values : Ref sig .tc := ⟨.hbm, 43, rfl⟩
abbrev main_indices : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_c_4 : Ref sig .tc := ⟨.hbm, 65, rfl⟩
abbrev main_call1_v15 : Ref sig .tc := ⟨.hbm, 66, rfl⟩
abbrev main_v14 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_cst : Ref sig .tc := ⟨.hbm, 88, rfl⟩
abbrev main_call2_v15 : Ref sig .tc := ⟨.hbm, 89, rfl⟩
abbrev main_v15 : Ref sig .tc := ⟨.hbm, 90, rfl⟩

abbrev nD : Nat := 1
abbrev τ : Topo := Topo.v7x

variable {F : FTy → Type} [FloatOps F]
-- ==== Proof.TopKRange.lean ====
/- The positions that a top-k along a vector returns are positions of that vector: every word of the second
   result is the word of a number below the vector's length. -/
module

public import Idealize.ShloMosaic.PureOps

@[expose] public section

namespace Cert.TopKRange

open Idealize.ShloMosaic

/-- Each of the `k` positions that top-k returns for a vector of `n` entries is a number below `n`, as a 32-bit word. -/
theorem position_lt {α : Type} {n k : Nat} (gt : α → α → BitVec 1) (x : (⟨1, ![n]⟩ : Shape).Idx → α)
    (h : (⟨1, ![n]⟩ : Shape).Slices (fun _ => 0) ⟨1, ![k]⟩) (j : (⟨1, ![k]⟩ : Shape).Idx) :
    ∃ p : Fin n, (Host.topK ⟨1, ![k]⟩ 0 gt x h).2 j = BitVec.ofNat 32 p.val := by
  have hd : 0 < (⟨1, ![n]⟩ : Shape).rank := Nat.one_pos
  unfold Host.topK Host.sort2
  simp only [hd, dif_pos, extractStridedSlice, iotaInDim, Shape.Idx.along, Function.update_self]
  exact ⟨_, rfl⟩

/-- The word of a number below `n ≤ 2 ^ 31` reads back below `n`. -/
theorem toNat_lt {n : Nat} (hn : n ≤ 2 ^ 31) (p : Fin n) : (BitVec.ofNat 32 p.val).toNat = p.val := by
  have := p.isLt
  rw [BitVec.toNat_ofNat]
  exact Nat.mod_eq_of_lt (by omega)

/-- Read as a number, each of the positions that top-k returns is below the vector's length. -/
theorem toNat_position_lt {α : Type} {n k : Nat} (hn : n ≤ 2 ^ 31) (gt : α → α → BitVec 1) (x : (⟨1, ![n]⟩ : Shape).Idx → α)
    (h : (⟨1, ![n]⟩ : Shape).Slices (fun _ => 0) ⟨1, ![k]⟩) (j : (⟨1, ![k]⟩ : Shape).Idx) :
    ((Host.topK ⟨1, ![k]⟩ 0 gt x h).2 j).toNat < n := by
  obtain ⟨p, hp⟩ := position_lt gt x h j
  rw [hp, toNat_lt hn p]
  exact p.isLt

end Cert.TopKRange

end
-- ==== Proof.TableKernel.lean ====
/- The kernel's index table holds the positions a top-k returned, so every block the table asks for lies inside
   its array: the side condition of the frame. -/
module

public import proofs.«01_k».proof.Proof.TopKRange
public import proofs.«01_k».proof.Proof.Gen.Kernel.Frame
public import Idealize.ShloMosaic.Lib.ValueIdxCore

@[expose] public section

noncomputable section

namespace Cert.Kernel.Table

open Cert.Kernel Cert.Kernel.Gen Idealize.ShloMosaic Idealize.ShloMosaic.TcCoe Idealize.SL.Sem Idealize.ShloMosaic.StableHlo

variable {F : FTy → Type} [FloatOps F] (m : (ℓ : Loc nD τ sig) → Buf (Elt F) ℓ)

/-- The table is the second result of a top-k of some vector of 10000 scores. -/
theorem indices_eq (c : Dev nD) : ∃ x : S10000.Idx → F .f32,
    V m c main_indices = (Host.topK S5000 0 (FloatOps.cmpfTotal .gt) x sliceFits_S10000_S5000).2 := by
  refine ⟨after hostOps0_1 (after hostOps0 (fun b => m (c, b))) (Proc.devRef .tc main_v13), ?_⟩
  show after (hostOps0 ++ (hostOps0_1 ++ [])) _ _ = _
  rw [List.append_nil, after_append]
  generalize after hostOps0 (fun b => m (c, b)) = G
  after_results_simp

/-- Every entry of the table is a row number of the 10000 rows. -/
theorem tbl_lt (j : S5000.Idx) : (tbl m 0 j : BitVec 32).toNat < 10000 := by
  obtain ⟨x, hx⟩ := indices_eq m 0
  have h : (tbl m 0 : S5000.Idx → BitVec 32) = _ := hx
  rw [h]
  exact TopKRange.toNat_position_lt (by decide) _ x _ j

/-- Every block the table asks for lies inside its array. -/
theorem ok : Ok m := by
  refine ⟨fun i => ⟨?_, Or.inl rfl⟩, fun i => ⟨?_, Or.inl rfl⟩⟩
  all_goals
    intro a
    match a with
    | ⟨0, _⟩ =>
      refine (Nat.mul_one _).le.trans ?_
      exact tbl_lt m ((Rect.unit (s := S5000) (k0_off1 i) S1.size (k0_off1_inb i)).emb (Shape.Idx.first (numel1_S1.symm ▸ Nat.one_pos)))
    | ⟨1, _⟩ => exact Nat.le_of_eq rfl
    | ⟨2, _⟩ => exact Nat.le_of_eq rfl

end Cert.Kernel.Table

end
-- ==== Proof.HostValues.lean ====
/- What the program's host lines leave before the gather runs: the row sums, the scores, the table of the 5000
   best rows, and the two arrays the gather reads. The functions are named here once; the reference is read back
   through the same names. -/
module

public import proofs.«01_k».proof.Proof.TopKRange
public import proofs.«01_k».proof.Proof.Gen.KernelIdeal.Frame
public import Idealize.ShloMosaic.Lib.ValueIdxCore

@[expose] public section

noncomputable section

namespace Cert.KernelIdeal.HostValues

open Cert.KernelIdeal Cert.KernelIdeal.Gen Idealize.ShloMosaic Idealize.ShloMosaic.TcCoe Idealize.SL.Sem Idealize.ShloMosaic.StableHlo

variable {F : FTy → Type} [FloatOps F]

/-- The row numbers, a negative one counted from the end of the 50000 rows, with a trailing axis of extent one. -/
def wrapped (subs : IVec S10000x16 32) : IVec S10000x16x1 32 :=
  broadcastInDim S10000x16x1 ![0, 1] bcast_S10000x16_S10000x16x1_0_1
    (select (cmpi .slt subs (broadcastInDim S10000x16 ![] bcast_S_S10000x16 (constantI S_ 32 0#32)))
      (addi subs (broadcastInDim S10000x16 ![] bcast_S_S10000x16 (constantI S_ 32 50000#32))) subs)

/-- One bit per row number: whether it names one of the 50000 rows. -/
def inRange (w : IVec S10000x16x1 32) : IVec S10000x16 1 :=
  Host.reduce IntOp.andi
    (andi (cmpi .sge w (broadcastInDim S10000x16x1 ![] bcast_S_S10000x16x1 (constantI S_ 32 0#32)))
      (cmpi .sle w (broadcastInDim S10000x16x1 ![0, 1, 2] bcast_S1x1x1_S10000x16x1_0_1_2
        (broadcastInDim S1x1x1 ![2] bcast_S1_S1x1x1_2 (constantI S1 32 49999#32)))))
    (constantI S_ 1 1#1) reducesTo_S10000x16x1_S10000x16_d2 h_S_

/-- The rows of `x` that `subs` names, the fill value where it names none. -/
def taken (x : FVec F S50000x256 .f32) (subs : IVec S10000x16 32) : FVec F S10000x16x256 .f32 :=
  select (broadcastInDim S10000x16x256 ![0, 1] bcast_S10000x16_S10000x16x256_0_1 (inRange (wrapped subs)))
    (Host.gather gather_S50000x256_S10000x16x1_S10000x16x256_2_0_n_n_0_2_1256 x (wrapped subs))
    (broadcastInDim S10000x16x256 ![] bcast_S_S10000x16x256 (constant S_ .f32 0x7FC00000#32))

/-- The sum of each line's sixteen rows. -/
def rowSums (t : FVec F S10000x16x256 .f32) : FVec F S10000x256 .f32 :=
  Host.reduceAdd t (constant S_ .f32 0x00000000#32) reducesTo_S10000x16x256_S10000x256_d1 h_S_

/-- The logistic function of each row sum's weighted total. -/
def scores (r : FVec F S10000x256 .f32) (w : FVec F S1x256 .f32) (b : FVec F S1 .f32) : FVec F S10000 .f32 :=
  Host.divf (broadcastInDim S10000 ![] bcast_S_S10000 (constant S_ .f32 0x3F800000#32))
    (addf (broadcastInDim S10000 ![] bcast_S_S10000 (constant S_ .f32 0x3F800000#32))
      (Host.exp (Host.negf (shapeCast S10000
        (addf (Host.dotGeneral dot_S10000x256_S256x1_S10000x1_1_0_0_1_n_n none r
            (transpose S256x1 [1, 0] w transposes_S1x256_S256x1_1_0))
          (broadcastInDim S10000x1 ![0, 1] bcast_S1x1_S10000x1_0_1 (broadcastInDim S1x1 ![1] bcast_S1_S1x1_1 b)))
        shapeCasts_S10000x1_S10000))))

/-- The positions of the 5000 greatest scores, greatest first. -/
def best (s : FVec F S10000 .f32) : IVec S5000 32 :=
  (Host.topK S5000 0 (FloatOps.cmpfTotal .gt) s sliceFits_S10000_S5000).2

variable (m : (ℓ : Loc nD τ sig) → Buf (Elt F) ℓ)

/-- The row sums of the arguments. -/
def reprOf (c : Dev nD) : FVec F S10000x256 .f32 :=
  rowSums (taken (m ((c : Thread nD τ).loc main_arg0)) (m ((c : Thread nD τ).loc main_arg1)))

/-- The table of the arguments. -/
def bestOf (c : Dev nD) : IVec S5000 32 :=
  best (scores (reprOf m c) (m ((c : Thread nD τ).loc main_arg2)) (m ((c : Thread nD τ).loc main_arg3)))

/-- The first stretch of host lines leaves the rows that the row numbers name. -/
theorem taken_eq (G : Valuation τ sig (Elt F)) :
    after hostOps0 G (Proc.devRef .tc main_v0) = taken (G (Proc.devRef .tc main_arg0)) (G (Proc.devRef .tc main_arg1)) := by
  simp only [hostOps0, TRef.binary, TRef.nullary, TRef.ternary, TRef.unary, TRef.toBuf, TRef.ofBuf, cast_eq]
  after_results_simp <;> rfl

/-- The contents before the gather are what the second stretch leaves of what the first leaves. -/
theorem V_eq (c : Dev nD) (b : Ref sig .tc) :
    V m c b = after hostOps0_1 (after hostOps0 (fun b => m (c, b))) (Proc.devRef .tc b) := by
  show after (hostOps0 ++ (hostOps0_1 ++ [])) _ _ = _
  rw [List.append_nil, after_append]

/-- The first stretch leaves an argument as launched. -/
theorem arg1_keep (G : Valuation τ sig (Elt F)) : after hostOps0 G (Proc.devRef .tc main_arg1) = G (Proc.devRef .tc main_arg1) := by
  simp only [hostOps0, TRef.binary, TRef.nullary, TRef.ternary, TRef.unary, TRef.toBuf, TRef.ofBuf, cast_eq]
  after_results_simp
theorem arg2_keep (G : Valuation τ sig (Elt F)) : after hostOps0 G (Proc.devRef .tc main_arg2) = G (Proc.devRef .tc main_arg2) := by
  simp only [hostOps0, TRef.binary, TRef.nullary, TRef.ternary, TRef.unary, TRef.toBuf, TRef.ofBuf, cast_eq]
  after_results_simp
theorem arg3_keep (G : Valuation τ sig (Elt F)) : after hostOps0 G (Proc.devRef .tc main_arg3) = G (Proc.devRef .tc main_arg3) := by
  simp only [hostOps0, TRef.binary, TRef.nullary, TRef.ternary, TRef.unary, TRef.toBuf, TRef.ofBuf, cast_eq]
  after_results_simp

/-- The table before the gather. -/
theorem indices_eq (c : Dev nD) : V m c main_indices = bestOf m c := by
  rw [V_eq]
  have h0 := taken_eq (fun b => m (c, b)); have h2 := arg2_keep (fun b => m (c, b)); have h3 := arg3_keep (fun b => m (c, b))
  revert h0 h2 h3
  generalize after hostOps0 (fun b => m (c, b)) = G
  intro h0 h2 h3
  after_results_simp
  rw [h0, h2, h3]; rfl

/-- The first array the gather reads: the row numbers, each line on its own. -/
theorem v14_eq (c : Dev nD) : V m c main_v14 = shapeCast S10000x1x16 (m ((c : Thread nD τ).loc main_arg1)) shapeCasts_S10000x16_S10000x1x16 := by
  rw [V_eq]
  have h1 := arg1_keep (fun b => m (c, b))
  revert h1
  generalize after hostOps0 (fun b => m (c, b)) = G
  intro h1
  after_results_simp
  rw [h1]; rfl

/-- The second array the gather reads: the row sums, each line on its own. -/
theorem v15_eq (c : Dev nD) : V m c main_v15 = shapeCast S10000x1x256 (reprOf m c) shapeCasts_S10000x256_S10000x1x256 := by
  rw [V_eq]
  have h0 := taken_eq (fun b => m (c, b))
  revert h0
  generalize after hostOps0 (fun b => m (c, b)) = G
  intro h0
  after_results_simp
  rw [h0]; rfl

/-- Every entry of the table of the arguments is a row number of the 10000 rows. -/
theorem bestOf_lt (c : Dev nD) (j : S5000.Idx) : (bestOf m c j).toNat < 10000 :=
  TopKRange.toNat_position_lt (by decide) _ _ sliceFits_S10000_S5000 j

/-- The table the gather is given is the table of the arguments. -/
theorem tbl_eq : (tbl m 0 : IVec S5000 32) = bestOf m 0 := indices_eq m 0

/-- Every block the table asks for lies inside its array. -/
theorem ok : Ok m := by
  have hlt : ∀ j : S5000.Idx, (tbl m 0 j : BitVec 32).toNat < 10000 := fun j => by
    have e : (tbl m 0 j : BitVec 32) = bestOf m 0 j := congrFun (tbl_eq m) j
    rw [e]; exact bestOf_lt m 0 j
  refine ⟨fun i => ⟨?_, Or.inl rfl⟩, fun i => ⟨?_, Or.inl rfl⟩⟩
  all_goals
    intro a
    match a with
    | ⟨0, _⟩ =>
      refine (Nat.mul_one _).le.trans ?_
      exact hlt ((Rect.unit (s := S5000) (k0_off1 i) S1.size (k0_off1_inb i)).emb (Shape.Idx.first (numel1_S1.symm ▸ Nat.one_pos)))
    | ⟨1, _⟩ => exact Nat.le_of_eq rfl
    | ⟨2, _⟩ => exact Nat.le_of_eq rfl

end Cert.KernelIdeal.HostValues

end
-- ==== Proof.Blocks.lean ====
/- What one step of the gather computes: step `t` copies the one line of each array that the table names at `t`. -/
module

public import proofs.«01_k».proof.Proof.HostValues
public import Idealize.ShloMosaic.Lib.Pipeline.ValueKit

@[expose] public section

noncomputable section

namespace Cert.KernelIdeal.Blocks

open Cert.KernelIdeal Cert.KernelIdeal.Gen Cert.KernelIdeal.HostValues
open Idealize.ShloMosaic hiding ix1 ix2 ix3
open Idealize.ShloMosaic.TcCoe Idealize.SL.Sem Idealize.ShloMosaic.ValueIdx
open Idealize.ShloMosaic.Pipeline (Dat)

variable {F : FTy → Type} [FloatOps F] (m : (ℓ : Loc nD τ sig) → Buf (Elt F) ℓ)

/-- The step's number is its grid coordinate. -/
theorem coord_eq (t : Fin grid0.N) : (grid0.coords t 0).val = t.val := by
  have h := t.isLt
  have hN : grid0.N = 5000 := rfl
  show t.val / 1 % 5000 = t.val
  omega

/-- What the step leaves in the first output's block is the first input's block. -/
theorem out2_eq (c : Dev nD) (t : Fin (cfgM m (ok m)).N) : (outsAt0 m (ok m) c t).1 = iblk m (ok m) c 0 t := by
  unfold outsAt0
  frame_out
  unfold k0_pay1
  refine (shapeCast_self _ _).trans ?_
  exact Memref.IsWhole.read_unread _ _

/-- What the step leaves in the second output's block is the second input's block. -/
theorem out3_eq (c : Dev nD) (t : Fin (cfgM m (ok m)).N) : (outsAt0 m (ok m) c t).2 = iblk m (ok m) c 1 t := by
  unfold outsAt0
  frame_out
  unfold k0_pay2
  refine (shapeCast_self _ _).trans ?_
  exact Memref.IsWhole.read_unread _ _

/-- The row that the table names at step `i`. -/
def row (c : Dev nD) (i : Fin 5000) : Fin 10000 := ⟨(bestOf m c (ix1 i)).toNat, bestOf_lt m c (ix1 i)⟩

/-- The word of a step's number reads back as the step's number. -/
theorem step_toNat (n : Nat) (h : n < 5000) : (Scalar.indexCast (BitVec.ofNat 32 n) : Index).toNat = n :=
  TopKRange.toNat_lt (n := 5000) (by decide) ⟨n, h⟩

/-- The table's entry that an index map reads at step `t`. -/
theorem entry_eq (t : Fin grid0.N) :
    (Rect.unit (s := S5000) (k0_off1 (grid0.coords t)) S1.size (k0_off1_inb (grid0.coords t))).emb
      (Shape.Idx.first (numel1_S1.symm ▸ Nat.one_pos)) = (ix1 (t : Fin 5000) : S5000.Idx) := by
  funext a
  match a with
  | ⟨0, _⟩ =>
    refine Fin.ext ?_
    show (Scalar.indexCast (BitVec.ofNat 32 (grid0.coords t 0).val) : Index).toNat + 1 * 0 = t.val
    rw [coord_eq, step_toNat _ t.isLt]
    rfl

/-- At any table, the block that step `t` reads of the first array is the line the table names at `t`. -/
theorem transform_0_eq (pf : pre0.Contents (Elt F)) (t : Fin grid0.N) :
    cc0_transform_0 (F := F) k0_off1_inb numel1_S1 pf (grid0.coords t) = ![(pf 0 (ix1 (t : Fin 5000) : S5000.Idx) : BitVec 32).toNat, 0, 0] := by
  have h := congrArg (fun j : S5000.Idx => (pf 0 j : BitVec 32).toNat) (entry_eq t)
  funext a
  match a with
  | ⟨0, _⟩ => exact h
  | ⟨1, _⟩ => rfl
  | ⟨2, _⟩ => rfl

/-- The table's word at step `t` is the row's number. -/
theorem tbl_toNat (t : Fin grid0.N) : (tbl m 0 (ix1 (t : Fin 5000) : S5000.Idx) : BitVec 32).toNat = (row m 0 t).val := by
  have e : (tbl m 0 (ix1 (t : Fin 5000) : S5000.Idx) : BitVec 32) = bestOf m 0 (ix1 (t : Fin 5000)) := congrFun (tbl_eq m) _
  rw [e]; rfl

/-- The block that step `t` reads of the first array. -/
theorem idx0 (t : Fin grid0.N) : cc0_transform_0 (F := F) k0_off1_inb numel1_S1 (tbl m) (grid0.coords t) = ![(row m 0 t).val, 0, 0] := by
  rw [transform_0_eq, tbl_toNat]

/-- The block that step `t` reads of the second array. -/
theorem idx1 (t : Fin grid0.N) : cc0_transform_1 (F := F) k0_off1_inb numel1_S1 (tbl m) (grid0.coords t) = ![(row m 0 t).val, 0, 0] :=
  idx0 m t

/-- The first input's block at step `t` is the line of the first array that the table names there. -/
theorem iblk0_apply (c : Dev nD) (t : Fin grid0.N) (k : Fin 16) :
    iblk m (ok m) c 0 t (ix3 (0 : Fin 1) (0 : Fin 1) k) = V m c main_v14 (ix3 (row m 0 t) (0 : Fin 1) k) := by
  have hi : ((cfgM m (ok m)).win 0).index t = ![(row m 0 t).val, 0, 0] := idx0 m t
  unfold iblk
  generalize V m c = W
  generalize row m 0 t = r at hi ⊢
  refine congrArg (W main_v14) (funext fun a => ?_)
  match a with
  | ⟨0, h⟩ =>
    refine Fin.ext ((Pipeline.Window.rect_emb_val ((cfgM m (ok m)).win 0) t (ix3 (0 : Fin 1) (0 : Fin 1) k) ⟨0, h⟩ rfl).trans ?_)
    rw [hi]
    show r.val * 1 + 0 = r.val
    omega
  | ⟨1, _⟩ => exact Subsingleton.elim (α := Fin 1) _ _
  | ⟨2, h⟩ =>
    refine Fin.ext ((Pipeline.Window.rect_emb_val ((cfgM m (ok m)).win 0) t (ix3 (0 : Fin 1) (0 : Fin 1) k) ⟨2, h⟩ rfl).trans ?_)
    rw [hi]
    show 0 * 16 + k.val = k.val
    omega

/-- The second input's block at step `t` is the line of the second array that the table names there. -/
theorem iblk1_apply (c : Dev nD) (t : Fin grid0.N) (k : Fin 256) :
    iblk m (ok m) c 1 t (ix3 (0 : Fin 1) (0 : Fin 1) k) = V m c main_v15 (ix3 (row m 0 t) (0 : Fin 1) k) := by
  have hi : ((cfgM m (ok m)).win 1).index t = ![(row m 0 t).val, 0, 0] := idx1 m t
  unfold iblk
  generalize V m c = W
  generalize row m 0 t = r at hi ⊢
  refine congrArg (W main_v15) (funext fun a => ?_)
  match a with
  | ⟨0, h⟩ =>
    refine Fin.ext ((Pipeline.Window.rect_emb_val ((cfgM m (ok m)).win 1) t (ix3 (0 : Fin 1) (0 : Fin 1) k) ⟨0, h⟩ rfl).trans ?_)
    rw [hi]
    show r.val * 1 + 0 = r.val
    omega
  | ⟨1, _⟩ => exact Subsingleton.elim (α := Fin 1) _ _
  | ⟨2, h⟩ =>
    refine Fin.ext ((Pipeline.Window.rect_emb_val ((cfgM m (ok m)).win 1) t (ix3 (0 : Fin 1) (0 : Fin 1) k) ⟨2, h⟩ rfl).trans ?_)
    rw [hi]
    show 0 * 256 + k.val = k.val
    omega

end Cert.KernelIdeal.Blocks

end
-- ==== Proof.Arrays.lean ====
/- What the gather's two arrays hold at the end, and what the two results hold after the reshapes: line `i` of a
   result is the line of its array that the table names at `i`. -/
module

public import proofs.«01_k».proof.Proof.Blocks

@[expose] public section

noncomputable section

namespace Cert.KernelIdeal.Arrays

open Cert.KernelIdeal Cert.KernelIdeal.Gen Cert.KernelIdeal.HostValues Cert.KernelIdeal.Blocks
open Idealize.ShloMosaic hiding ix1 ix2 ix3
open Idealize.ShloMosaic.TcCoe Idealize.SL.Sem Idealize.ShloMosaic.ValueIdx
open Idealize.ShloMosaic.Pipeline (Dat)

variable {F : FTy → Type} [FloatOps F] (m : (ℓ : Loc nD τ sig) → Buf (Elt F) ℓ)

/-- The lines of `x` that `r` names, line by line. -/
def pick {α : Type} {n : Nat} (r : Fin 5000 → Fin 10000) (x : (⟨2, ![10000, n]⟩ : Shape).Idx → α) :
    (⟨2, ![5000, n]⟩ : Shape).Idx → α := fun i => x (ix2 (r (i 0)) (i 1))

/-- The same with an axis of extent one between. -/
def pick3 {α : Type} {n : Nat} (r : Fin 5000 → Fin 10000) (x : (⟨3, ![10000, 1, n]⟩ : Shape).Idx → α) :
    (⟨3, ![5000, 1, n]⟩ : Shape).Idx → α := fun i => x (ix3 (r (i 0)) (0 : Fin 1) (i 2))

/-- Dropping that axis after the picking is dropping it before. -/
theorem pick3_cast {α : Type} {n : Nat} (r : Fin 5000 → Fin 10000) (x : (⟨2, ![10000, n]⟩ : Shape).Idx → α)
    (h : (⟨2, ![10000, n]⟩ : Shape).ShapeCasts ⟨3, ![10000, 1, n]⟩) (h' : (⟨3, ![5000, 1, n]⟩ : Shape).ShapeCasts ⟨2, ![5000, n]⟩) :
    shapeCast ⟨2, ![5000, n]⟩ (pick3 r (shapeCast ⟨3, ![10000, 1, n]⟩ x h)) h' = pick r x := by
  funext j
  obtain ⟨i, k, rfl⟩ : ∃ i k, j = ix2 i k := ⟨_, _, ValueIdx.eq_ix2 j⟩
  refine (shapeCast_apply _ h' (ix2 i k) (ix3 i (0 : Fin 1) k) ?_).trans ?_
  · rw [Shape.rowMajor_val_two, Shape.rowMajor_val_three]
    show (i.val * 1 + 0) * n + k.val = i.val * n + k.val
    rw [Nat.mul_one, Nat.add_zero]
  · refine shapeCast_apply _ h _ (ix2 (r i) k) ?_
    rw [Shape.rowMajor_val_two, Shape.rowMajor_val_three]
    show (r i).val * n + k.val = ((r i).val * 1 + 0) * n + k.val
    rw [Nat.mul_one, Nat.add_zero]

/-- The block that step `t` writes of the first output is line `t`. -/
theorem out_emb2 (t : Fin grid0.N) (k : Fin 16) :
    (((cfgM m (ok m)).win 2).blk t).view.emb (ix3 (0 : Fin 1) (0 : Fin 1) k) = (ix3 (t : Fin 5000) (0 : Fin 1) k : S5000x1x16.Idx) := by
  have h0 : (BitVec.ofNat 32 (grid0.coords t 0).val).toNat = t.val := by
    rw [coord_eq]; exact step_toNat _ t.isLt
  have hi : ((cfgM m (ok m)).win 2).index t = ![t.val, 0, 0] := by
    show ![(BitVec.ofNat 32 (grid0.coords t 0).val).toNat, 0, 0] = _
    rw [h0]
  funext a
  match a with
  | ⟨0, h⟩ =>
    refine Fin.ext ((Pipeline.Window.rect_emb_val ((cfgM m (ok m)).win 2) t (ix3 (0 : Fin 1) (0 : Fin 1) k) ⟨0, h⟩ rfl).trans ?_)
    rw [hi]
    show t.val * 1 + 0 = t.val
    omega
  | ⟨1, _⟩ => exact Subsingleton.elim (α := Fin 1) _ _
  | ⟨2, h⟩ =>
    refine Fin.ext ((Pipeline.Window.rect_emb_val ((cfgM m (ok m)).win 2) t (ix3 (0 : Fin 1) (0 : Fin 1) k) ⟨2, h⟩ rfl).trans ?_)
    rw [hi]
    show 0 * 16 + k.val = k.val
    omega

/-- What step `t` leaves in the first output's block is line `t` of the picked lines. -/
theorem step2 (c : Dev nD) (t : Fin grid0.N) (y : S1x1x16.Idx) :
    (dats m (ok m) 0 c).after 2 t y = pick3 (row m 0) (V m c main_v14) ((((cfgM m (ok m)).win 2).blk t).view.emb y) := by
  obtain ⟨a, b, k, rfl⟩ : ∃ a b k, y = ix3 a b k := ⟨_, _, _, ValueIdx.eq_ix3 y⟩
  obtain rfl : a = 0 := Subsingleton.elim _ _
  obtain rfl : b = 0 := Subsingleton.elim _ _
  rw [out_emb2, after0_2, out2_eq]
  exact iblk0_apply m c t k

/-- Every index of the first output array is in the block of some step. -/
theorem cover2 (i : S5000x1x16.Idx) :
    ∃ t : Fin (cfgM m (ok m)).N, ((cfgM m (ok m)).win 2).flush t = true ∧ i ∈ (((cfgM m (ok m)).win 2).blk t).view.set := by
  obtain ⟨a, b, k, rfl⟩ : ∃ a b k, i = ix3 a b k := ⟨_, _, _, ValueIdx.eq_ix3 i⟩
  obtain rfl : b = 0 := Subsingleton.elim _ _
  refine ⟨a, flush0_2 (adm m (ok m)) a, ?_⟩
  rw [← out_emb2 m a k]
  exact View.emb_mem_set _ _

/-- The first output array at the end. -/
theorem final2 (c : Dev nD) : (dats m (ok m) 0 c).arrAt 2 (cfgM m (ok m)).N = pick3 (row m 0) (V m c main_v14) :=
  (dats m (ok m) 0 c).arrAt_eq_of_emb 2 _ (fun t _ y => step2 m c t y) (cover2 m)

/-- The block that step `t` writes of the second output is line `t`. -/
theorem out_emb3 (t : Fin grid0.N) (k : Fin 256) :
    (((cfgM m (ok m)).win 3).blk t).view.emb (ix3 (0 : Fin 1) (0 : Fin 1) k) = (ix3 (t : Fin 5000) (0 : Fin 1) k : S5000x1x256.Idx) := by
  have h0 : (BitVec.ofNat 32 (grid0.coords t 0).val).toNat = t.val := by
    rw [coord_eq]; exact step_toNat _ t.isLt
  have hi : ((cfgM m (ok m)).win 3).index t = ![t.val, 0, 0] := by
    show ![(BitVec.ofNat 32 (grid0.coords t 0).val).toNat, 0, 0] = _
    rw [h0]
  funext a
  match a with
  | ⟨0, h⟩ =>
    refine Fin.ext ((Pipeline.Window.rect_emb_val ((cfgM m (ok m)).win 3) t (ix3 (0 : Fin 1) (0 : Fin 1) k) ⟨0, h⟩ rfl).trans ?_)
    rw [hi]
    show t.val * 1 + 0 = t.val
    omega
  | ⟨1, _⟩ => exact Subsingleton.elim (α := Fin 1) _ _
  | ⟨2, h⟩ =>
    refine Fin.ext ((Pipeline.Window.rect_emb_val ((cfgM m (ok m)).win 3) t (ix3 (0 : Fin 1) (0 : Fin 1) k) ⟨2, h⟩ rfl).trans ?_)
    rw [hi]
    show 0 * 256 + k.val = k.val
    omega

/-- What step `t` leaves in the second output's block is line `t` of the picked lines. -/
theorem step3 (c : Dev nD) (t : Fin grid0.N) (y : S1x1x256.Idx) :
    (dats m (ok m) 0 c).after 3 t y = pick3 (row m 0) (V m c main_v15) ((((cfgM m (ok m)).win 3).blk t).view.emb y) := by
  obtain ⟨a, b, k, rfl⟩ : ∃ a b k, y = ix3 a b k := ⟨_, _, _, ValueIdx.eq_ix3 y⟩
  obtain rfl : a = 0 := Subsingleton.elim _ _
  obtain rfl : b = 0 := Subsingleton.elim _ _
  rw [out_emb3, after0_3, out3_eq]
  exact iblk1_apply m c t k

/-- Every index of the second output array is in the block of some step. -/
theorem cover3 (i : S5000x1x256.Idx) :
    ∃ t : Fin (cfgM m (ok m)).N, ((cfgM m (ok m)).win 3).flush t = true ∧ i ∈ (((cfgM m (ok m)).win 3).blk t).view.set := by
  obtain ⟨a, b, k, rfl⟩ : ∃ a b k, i = ix3 a b k := ⟨_, _, _, ValueIdx.eq_ix3 i⟩
  obtain rfl : b = 0 := Subsingleton.elim _ _
  refine ⟨a, flush0_3 (adm m (ok m)) a, ?_⟩
  rw [← out_emb3 m a k]
  exact View.emb_mem_set _ _

/-- The second output array at the end. -/
theorem final3 (c : Dev nD) : (dats m (ok m) 0 c).arrAt 3 (cfgM m (ok m)).N = pick3 (row m 0) (V m c main_v15) :=
  (dats m (ok m) 0 c).arrAt_eq_of_emb 3 _ (fun t _ y => step3 m c t y) (cover3 m)

/-- No two windows share an array. -/
theorem arr_inj : Function.Injective (Pipeline.arrRef spec0) := by decide

/-- The first result is the lines of the row numbers that the table names. -/
theorem tail17 (c : Dev nD) :
    Pipeline.afterTail pcfgs (fun _ => adm m (ok m)) (dats m (ok m)) 0 (V0 m) [hostOps1] c main_v17
      = pick (row m 0) (m ((c : Thread nD τ).loc main_arg1)) := by
  have e := (Pipeline.withArrays_arr spec0 arr_inj c (V0 m c) (fun w => (dats m (ok m) 0 c).arrAt w (cfgM m (ok m)).N) 2).trans (final2 m c)
  unfold Pipeline.afterTail
  show StableHlo.after hostOps1 (Pipeline.withArrays spec0 c (V0 m c) (fun w => (dats m (ok m) 0 c).arrAt w (cfgM m (ok m)).N)) _ = _
  revert e
  generalize Pipeline.withArrays spec0 c (V0 m c) (fun w => (dats m (ok m) 0 c).arrAt w (cfgM m (ok m)).N) = G
  intro e
  have e' : G (Proc.devRef .tc main_v16_0) = pick3 (row m 0) (V m c main_v14) := e
  after_results_simp
  rw [e', v14_eq]
  exact pick3_cast _ _ _ _

/-- The second result is the lines of the row sums that the table names. -/
theorem tail18 (c : Dev nD) :
    Pipeline.afterTail pcfgs (fun _ => adm m (ok m)) (dats m (ok m)) 0 (V0 m) [hostOps1] c main_v18 = pick (row m 0) (reprOf m c) := by
  have e := (Pipeline.withArrays_arr spec0 arr_inj c (V0 m c) (fun w => (dats m (ok m) 0 c).arrAt w (cfgM m (ok m)).N) 3).trans (final3 m c)
  unfold Pipeline.afterTail
  show StableHlo.after hostOps1 (Pipeline.withArrays spec0 c (V0 m c) (fun w => (dats m (ok m) 0 c).arrAt w (cfgM m (ok m)).N)) _ = _
  revert e
  generalize Pipeline.withArrays spec0 c (V0 m c) (fun w => (dats m (ok m) 0 c).arrAt w (cfgM m (ok m)).N) = G
  intro e
  have e' : G (Proc.devRef .tc main_v16_1) = pick3 (row m 0) (V m c main_v15) := e
  after_results_simp
  rw [e', v15_eq]
  exact pick3_cast _ _ _ _

end Cert.KernelIdeal.Arrays

end
-- ==== Proof.TakeRows.lean ====
/- What the reference's final look-ups compute: with every row number in range no number is wrapped, no line is
   filled, and line `i` of the result is the line that entry `i` names. -/
module

public import proofs.«01_k».proof.Proof.Gen.ReferenceIdeal
public import Idealize.ShloMosaic.Lib.Routing.Ops

@[expose] public section

noncomputable section

namespace Cert.ReferenceIdeal.TakeRows

open Cert.ReferenceIdeal Cert.ReferenceIdeal.Gen
open Idealize.ShloMosaic Idealize.ShloMosaic.ValueIdx

variable {F : FTy → Type} [FloatOps F]

/-- The row numbers, a negative one counted from the end of the 10000 rows, as a column. -/
def column (idx : IVec S5000 32) : IVec S5000x1 32 :=
  broadcastInDim S5000x1 ![0] bcast_S5000_S5000x1_0
    (select (cmpi .slt idx (broadcastInDim S5000 ![] bcast_S_S5000 (constantI S_ 32 0#32)))
      (addi idx (broadcastInDim S5000 ![] bcast_S_S5000 (constantI S_ 32 10000#32))) idx)

/-- One bit per row number: whether it names one of the 10000 rows. -/
def inRange (w : IVec S5000x1 32) : IVec S5000 1 :=
  Host.reduce IntOp.andi
    (andi (cmpi .sge w (broadcastInDim S5000x1 ![] bcast_S_S5000x1 (constantI S_ 32 0#32)))
      (cmpi .sle w (broadcastInDim S5000x1 ![0, 1] bcast_S1x1_S5000x1_0_1
        (broadcastInDim S1x1 ![1] bcast_S1_S1x1_1 (constantI S1 32 9999#32)))))
    (constantI S_ 1 1#1) reducesTo_S5000x1_S5000_d1 h_S_

/-- The lines of sixteen row numbers that `idx` names. -/
def takeSubs (x : IVec S10000x16 32) (idx : IVec S5000 32) : IVec S5000x16 32 :=
  select (broadcastInDim S5000x16 ![0] bcast_S5000_S5000x16_0 (inRange (column idx)))
    (Host.gather gather_S10000x16_S5000x1_S5000x16_1_0_n_n_0_1_116 x (column idx))
    (broadcastInDim S5000x16 ![] bcast_S_S5000x16 (constantI S_ 32 2147483648#32))

/-- The row sums that `idx` names. -/
def takeSums (x : FVec F S10000x256 .f32) (idx : IVec S5000 32) : FVec F S5000x256 .f32 :=
  select (broadcastInDim S5000x256 ![0] bcast_S5000_S5000x256_0 (inRange (column idx)))
    (Host.gather gather_S10000x256_S5000x1_S5000x256_1_0_n_n_0_1_1256 x (column idx))
    (broadcastInDim S5000x256 ![] bcast_S_S5000x256 (constant S_ .f32 0x7FC00000#32))

/-- A word below 10000 has the same value signed. -/
theorem toInt_small (x : BitVec 32) (h : x.toNat < 10000) : x.toInt = x.toNat :=
  BitVec.toInt_eq_toNat_of_lt (by omega)

/-- A word below 10000 is not negative. -/
theorem slt_zero (x : BitVec 32) (h : x.toNat < 10000) : ¬IntOp.cmpi .slt x 0#32 = 1#1 := by
  have e : x.slt 0#32 = false := decide_eq_false (by
    rw [toInt_small x h, show (0#32).toInt = 0 from rfl]; omega)
  show ¬BitVec.ofBool (x.slt 0#32) = 1#1
  rw [e]; decide

/-- A word below 10000 is at least zero. -/
theorem sge_zero (x : BitVec 32) (h : x.toNat < 10000) : IntOp.cmpi .sge x 0#32 = 1#1 := by
  have e : (0#32).sle x = true := decide_eq_true (by
    rw [toInt_small x h, show (0#32).toInt = 0 from rfl]; omega)
  show BitVec.ofBool ((0#32).sle x) = 1#1
  rw [e]; rfl

/-- A word below 10000 is at most 9999. -/
theorem sle_last (x : BitVec 32) (h : x.toNat < 10000) : IntOp.cmpi .sle x 9999#32 = 1#1 := by
  have e : x.sle 9999#32 = true := decide_eq_true (by
    rw [toInt_small x h, show (9999#32).toInt = 9999 from rfl]; omega)
  show BitVec.ofBool (x.sle 9999#32) = 1#1
  rw [e]; rfl

/-- With the row numbers in range, the column holds them unchanged. -/
theorem column_apply (idx : IVec S5000 32) (h : ∀ j, (idx j).toNat < 10000) (i : Fin 5000) (z : Fin 1) :
    column idx (ix2 i z) = idx (ix1 i) := by
  have e : broadcastInDim S5000x1 ![0] bcast_S5000_S5000x1_0 idx (ix2 i z) = idx (ix1 i) :=
    congrArg idx (funext fun a => by match a with | ⟨0, _⟩ => rfl)
  unfold column
  rw [show select (cmpi .slt idx (broadcastInDim S5000 ![] bcast_S_S5000 (constantI S_ 32 0#32)))
      (addi idx (broadcastInDim S5000 ![] bcast_S_S5000 (constantI S_ 32 10000#32))) idx = idx from
    funext fun j => if_neg (slt_zero (idx j) (h j))]
  exact e

/-- A conjunction over bits that are all set is set. -/
theorem foldl_ones {ι : Type} (l : List ι) (f : ι → BitVec 1) (hf : ∀ i, f i = 1#1) :
    l.foldl (fun r n => IntOp.andi r (f n)) 1#1 = 1#1 := by
  induction l with
  | nil => rfl
  | cons a l ih =>
    rw [List.foldl_cons, hf a]
    exact ih

/-- With the row numbers in range, every bit is set. -/
theorem inRange_apply (w : IVec S5000x1 32) (h : ∀ j, (w j).toNat < 10000) (i : S5000.Idx) : inRange w i = 1#1 := by
  unfold inRange Host.reduce
  refine foldl_ones _ _ fun n => ?_
  show IntOp.andi (IntOp.cmpi .sge (w _) 0#32) (IntOp.cmpi .sle (w _) 9999#32) = 1#1
  rw [sge_zero _ (h _), sle_last _ (h _)]
  rfl

/-- The column's entries are in range when the row numbers are. -/
theorem column_lt (idx : IVec S5000 32) (h : ∀ j, (idx j).toNat < 10000) (j : S5000x1.Idx) : (column idx j).toNat < 10000 := by
  obtain ⟨i, z, rfl⟩ : ∃ i z, j = ix2 i z := ⟨_, _, ValueIdx.eq_ix2 j⟩
  rw [column_apply idx h i z]
  exact h _

/-- Where the bit is set, a selection takes its first array. -/
theorem select_set {s : Shape} {α : Type} (p : IVec s 1) (x y : s.Idx → α) (i : s.Idx) (h : p i = 1#1) : select p x y i = x i :=
  if_pos h

/-- A word is the word of its value. -/
theorem word_eq (x : BitVec 32) : x = BitVec.ofNat 32 x.toNat :=
  BitVec.eq_of_toNat_eq (by rw [BitVec.toNat_ofNat, Nat.mod_eq_of_lt x.isLt])

/-- With the row numbers in range, line `i` is the line of row numbers that entry `i` names. -/
theorem takeSubs_apply (x : IVec S10000x16 32) (idx : IVec S5000 32) (h : ∀ j, (idx j).toNat < 10000) (i : Fin 5000) (k : Fin 16) :
    takeSubs x idx (ix2 i k) = x (ix2 (⟨(idx (ix1 i)).toNat, h (ix1 i)⟩ : Fin 10000) k) := by
  have hm : broadcastInDim S5000x16 ![0] bcast_S5000_S5000x16_0 (inRange (column idx)) (ix2 i k) = 1#1 :=
    inRange_apply _ (column_lt idx h) _
  unfold takeSubs
  refine (select_set _ _ _ _ hm).trans ?_
  refine Routing.gather_row _ rfl rfl rfl rfl rfl x _ i k ⟨(idx (ix1 i)).toNat, h (ix1 i)⟩ ?_ (by decide)
  rw [column_apply idx h i 0]
  exact word_eq _

/-- With the row numbers in range, line `i` is the row sum that entry `i` names. -/
theorem takeSums_apply (x : FVec F S10000x256 .f32) (idx : IVec S5000 32) (h : ∀ j, (idx j).toNat < 10000) (i : Fin 5000) (k : Fin 256) :
    takeSums x idx (ix2 i k) = x (ix2 (⟨(idx (ix1 i)).toNat, h (ix1 i)⟩ : Fin 10000) k) := by
  have hm : broadcastInDim S5000x256 ![0] bcast_S5000_S5000x256_0 (inRange (column idx)) (ix2 i k) = 1#1 :=
    inRange_apply _ (column_lt idx h) _
  unfold takeSums
  refine (select_set _ _ _ _ hm).trans ?_
  refine Routing.gather_row _ rfl rfl rfl rfl rfl x _ i k ⟨(idx (ix1 i)).toNat, h (ix1 i)⟩ ?_ (by decide)
  rw [column_apply idx h i 0]
  exact word_eq _

end Cert.ReferenceIdeal.TakeRows

end
-- ==== Proof.ReferenceValues.lean ====
/- What the reference computes: the same row sums, scores and table, and then the two look-ups by that table. -/
module

public import proofs.«01_k».proof.Proof.HostValues
public import proofs.«01_k».proof.Proof.TakeRows
public import proofs.«01_k».proof.Proof.Gen.ReferenceIdeal.Run

@[expose] public section

noncomputable section

namespace Cert.ReferenceIdeal.Results

open Cert.ReferenceIdeal Cert.ReferenceIdeal.Gen Cert.ReferenceIdeal.Value Cert.ReferenceIdeal.TakeRows
open Cert.KernelIdeal.HostValues (taken rowSums scores best)
open Idealize.ShloMosaic Idealize.ShloMosaic.TcCoe Idealize.SL.Sem

variable {F : FTy → Type} [FloatOps F] (m : (ℓ : Loc nD τ sig) → Buf (Elt F) ℓ)

/-- The row sums of the reference's arguments. -/
def sums (c : Dev nD) : FVec F S10000x256 .f32 :=
  rowSums (taken (m ((c : Thread nD τ).loc main_arg0)) (m ((c : Thread nD τ).loc main_arg1)))

/-- The table of the reference's arguments. -/
def chosen (c : Dev nD) : IVec S5000 32 :=
  best (scores (sums m c) (m ((c : Thread nD τ).loc main_arg2)) (m ((c : Thread nD τ).loc main_arg3)))

set_option maxRecDepth 8192 in
/-- The first result: the lines of row numbers that the table names. -/
theorem first_eq (c : Dev nD) : res_out0 m c = takeSubs (m ((c : Thread nD τ).loc main_arg1)) (chosen m c) := by
  unfold res_out0 res_main_v14
  rfl

set_option maxRecDepth 8192 in
/-- The second result: the row sums that the table names. -/
theorem second_eq (c : Dev nD) : res_out1 m c = takeSums (sums m c) (chosen m c) := by
  unfold res_out1 res_main_v15
  rfl

end Cert.ReferenceIdeal.Results

end
-- ==== Proof.Equation.lean ====
/- The equation: from the same arguments, the lines the gather copies are the lines the reference looks up. -/
module

public import proofs.«01_k».proof.Proof.Arrays
public import proofs.«01_k».proof.Proof.ReferenceValues

@[expose] public section

noncomputable section

namespace Cert.Equation

open Cert.KernelIdeal.HostValues Cert.KernelIdeal.Blocks Cert.KernelIdeal.Arrays Cert.ReferenceIdeal.TakeRows
open Idealize.ShloMosaic hiding ix1 ix2 ix3
open Idealize.ShloMosaic.TcCoe Idealize.SL.Sem Idealize.ShloMosaic.ValueIdx

variable {F : FTy → Type} [FloatOps F]
  (m : (ℓ : Loc Cert.KernelIdeal.nD Cert.KernelIdeal.τ Cert.KernelIdeal.sig) → Buf (Elt F) ℓ)
  (m' : (ℓ : Loc Cert.ReferenceIdeal.nD Cert.ReferenceIdeal.τ Cert.ReferenceIdeal.sig) → Buf (Elt F) ℓ)

/-- Looking the row numbers up by the kernel's table is picking its rows. -/
theorem takeSubs_pick (c : Dev Cert.KernelIdeal.nD) (x : IVec Cert.KernelIdeal.S10000x16 32) :
    takeSubs x (bestOf m c) = pick (row m c) x := by
  funext j
  obtain ⟨i, k, rfl⟩ : ∃ i k, j = ix2 i k := ⟨_, _, ValueIdx.eq_ix2 j⟩
  exact takeSubs_apply x (bestOf m c) (bestOf_lt m c) i k

/-- Looking the row sums up by the kernel's table is picking its rows. -/
theorem takeSums_pick (c : Dev Cert.KernelIdeal.nD) (x : FVec F Cert.KernelIdeal.S10000x256 .f32) :
    takeSums x (bestOf m c) = pick (row m c) x := by
  funext j
  obtain ⟨i, k, rfl⟩ : ∃ i k, j = ix2 i k := ⟨_, _, ValueIdx.eq_ix2 j⟩
  exact takeSums_apply x (bestOf m c) (bestOf_lt m c) i k

variable (c : Dev Cert.KernelIdeal.nD)
  (h0 : m' ((c : Thread Cert.ReferenceIdeal.nD Cert.ReferenceIdeal.τ).loc Cert.ReferenceIdeal.main_arg0)
    = m ((c : Thread Cert.KernelIdeal.nD Cert.KernelIdeal.τ).loc Cert.KernelIdeal.main_arg0))
  (h1 : m' ((c : Thread Cert.ReferenceIdeal.nD Cert.ReferenceIdeal.τ).loc Cert.ReferenceIdeal.main_arg1)
    = m ((c : Thread Cert.KernelIdeal.nD Cert.KernelIdeal.τ).loc Cert.KernelIdeal.main_arg1))
  (h2 : m' ((c : Thread Cert.ReferenceIdeal.nD Cert.ReferenceIdeal.τ).loc Cert.ReferenceIdeal.main_arg2)
    = m ((c : Thread Cert.KernelIdeal.nD Cert.KernelIdeal.τ).loc Cert.KernelIdeal.main_arg2))
  (h3 : m' ((c : Thread Cert.ReferenceIdeal.nD Cert.ReferenceIdeal.τ).loc Cert.ReferenceIdeal.main_arg3)
    = m ((c : Thread Cert.KernelIdeal.nD Cert.KernelIdeal.τ).loc Cert.KernelIdeal.main_arg3))

include h0 h1 in
/-- From the same arguments, the same row sums. -/
theorem sums_eq : Cert.ReferenceIdeal.Results.sums m' c = reprOf m c :=
  congrArg rowSums (congr (congrArg taken h0) h1)

include h0 h1 h2 h3 in
/-- From the same arguments, the same table. -/
theorem chosen_eq : Cert.ReferenceIdeal.Results.chosen m' c = bestOf m c :=
  congrArg best (congr (congr (congrArg scores (sums_eq m m' c h0 h1)) h2) h3)

include h0 h1 h2 h3 in
/-- The reference's first result is the row numbers' lines that the kernel picks. -/
theorem first : Cert.ReferenceIdeal.Value.res_out0 m' c
    = pick (row m c) (m ((c : Thread Cert.KernelIdeal.nD Cert.KernelIdeal.τ).loc Cert.KernelIdeal.main_arg1)) :=
  (Cert.ReferenceIdeal.Results.first_eq m' c).trans
    ((congr (congrArg takeSubs h1) (chosen_eq m m' c h0 h1 h2 h3)).trans (takeSubs_pick m c _))

include h0 h1 h2 h3 in
/-- The reference's second result is the row sums that the kernel picks. -/
theorem second : Cert.ReferenceIdeal.Value.res_out1 m' c = pick (row m c) (reprOf m c) :=
  (Cert.ReferenceIdeal.Results.second_eq m' c).trans
    ((congr (congrArg takeSums (sums_eq m m' c h0 h1)) (chosen_eq m m' c h0 h1 h2 h3)).trans (takeSums_pick m c _))

end Cert.Equation

end
-- ==== Proof.lean ====
/- The claims, assembled: the frames of the three programs, and the equation of the results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.TableKernel
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

section Kernel

open Cert.KernelIdeal Cert.KernelIdeal.Gen Cert.KernelIdeal.HostValues Cert.KernelIdeal.Blocks Cert.KernelIdeal.Arrays

variable {F : FTy → Type} [FloatOps F] (m : (ℓ : Loc nD τ sig) → Buf (Elt F) ℓ) (ρ : Dev nD → PrngReg)

/-- The kernel's run: the two results are the picked lines, and the arguments are as launched. -/
theorem kernel_run : θ_run defs (onTc (τ := τ) (main (F := F))) ⟨m, fun _ => 0, ρ⟩ (fun r => ∀ c : Dev nD,
      r.2.mem ((c.tc : Thread nD τ).loc main_v17) = pick (row m c) (m ((c.tc : Thread nD τ).loc main_arg1))
      ∧ r.2.mem ((c.tc : Thread nD τ).loc main_v18) = pick (row m c) (reprOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (run_main_quiescent m ρ (ok m))
  have h := h.1
  obtain rfl : c = 0 := Subsingleton.elim (α := Fin 1) c 0
  exact ⟨((h 0).2 main_v17 (by decide : main_v17 ∈ Pipeline.restRefs sig spec0)).trans (tail17 m 0),
    ((h 0).2 main_v18 (by decide : main_v18 ∈ Pipeline.restRefs sig spec0)).trans (tail18 m 0),
    ((h 0).2 main_arg0 (by decide : main_arg0 ∈ Pipeline.restRefs sig spec0)).trans (W_main_arg0 m (ok m) _ 0),
    ((h 0).2 main_arg1 (by decide : main_arg1 ∈ Pipeline.restRefs sig spec0)).trans (W_main_arg1 m (ok m) _ 0),
    ((h 0).2 main_arg2 (by decide : main_arg2 ∈ Pipeline.restRefs sig spec0)).trans (W_main_arg2 m (ok m) _ 0),
    ((h 0).2 main_arg3 (by decide : main_arg3 ∈ Pipeline.restRefs sig spec0)).trans (W_main_arg3 m (ok m) _ 0)⟩

end Kernel

/-- The reference leaves its arguments and its counters as launched. -/
theorem reference_frame : Cert.quiescent_ReferenceIdeal := fun m ρ _ =>
  (θ_run _ _ _).mono (fun r h => ⟨fun c => (h c).2.2, sem_eq_zero_of_no_sems (by decide) r.2⟩) (Cert.ReferenceIdeal.Value.run m ρ)

/-- From the same arguments, the same results. -/
theorem equal_results : Cert.algebraic_KernelIdeal_ReferenceIdeal := fun m ρ m' ρ' _ hm =>
  ⟨_, _, kernel_run m ρ, (θ_run _ _ _).mono (fun _ h c =>
    ⟨(h c).1.trans (Cert.Equation.first m m' c (hm c).1 (hm c).2.1 (hm c).2.2.1 (hm c).2.2.2),
      (h c).2.1.trans (Cert.Equation.second m m' c (hm c).1 (hm c).2.1 (hm c).2.2.1 (hm c).2.2.2), (h c).2.2⟩)
    (Cert.ReferenceIdeal.Value.run m' ρ')⟩

/-- Every claim of the certificate. -/
theorem claim : Cert.Claim := ⟨Cert.Kernel.Gen.facts, Cert.KernelIdeal.Gen.facts, Cert.ReferenceIdeal.Gen.facts,
  fun m ρ _ => Cert.Kernel.Gen.frame m ρ (Cert.Kernel.Table.ok m),
  fun m ρ _ => Cert.KernelIdeal.Gen.frame m ρ (Cert.KernelIdeal.HostValues.ok m),
  reference_frame, trivial, equal_results⟩

end Cert.Proof

end
